-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_finite_targets_valid [hPre_rows_finite_targets_valid : Cert.Pre_rows_finite_targets_valid.Facts] (m : (ℓ : Loc Cert.KernelIdeal.nD Cert.KernelIdeal.τ Cert.KernelIdeal.sig) → Buf (Elt Ideal) ℓ) : Prop :=
  ∀ c : Dev Cert.KernelIdeal.nD,
    (Cert.Pre_rows_finite_targets_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_finite_targets_valid [hPre_rows_finite_targets_valid : Cert.Pre_rows_finite_targets_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_finite_targets_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_finite_targets_valid [hKernelIdeal : Cert.KernelIdeal.Facts] [hPre_rows_finite_targets_valid : Cert.Pre_rows_finite_targets_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_finite_targets_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_finite_targets_valid [hReferenceIdeal : Cert.ReferenceIdeal.Facts] [hPre_rows_finite_targets_valid : Cert.Pre_rows_finite_targets_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_finite_targets_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_finite_targets_valid [hKernelIdeal : Cert.KernelIdeal.Facts] [hReferenceIdeal : Cert.ReferenceIdeal.Facts] [hPre_rows_finite_targets_valid : Cert.Pre_rows_finite_targets_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_finite_targets_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_finite_targets_valid : Cert.Pre_rows_finite_targets_valid.Facts),
    quiescent_Kernel (hKernel := hKernel)
    ∧ quiescent_KernelIdeal (hKernelIdeal := hKernelIdeal)
    ∧ quiescent_KernelIdeal_pre_rows_finite_targets_valid (hKernelIdeal := hKernelIdeal) (hPre_rows_finite_targets_valid := hPre_rows_finite_targets_valid)
    ∧ quiescent_ReferenceIdeal (hReferenceIdeal := hReferenceIdeal)
    ∧ quiescent_ReferenceIdeal_pre_rows_finite_targets_valid (hReferenceIdeal := hReferenceIdeal) (hPre_rows_finite_targets_valid := hPre_rows_finite_targets_valid)
    ∧ preserves_Kernel_KernelIdeal
    ∧ algebraic_KernelIdeal_ReferenceIdeal_pre_rows_finite_targets_valid (hKernelIdeal := hKernelIdeal) (hReferenceIdeal := hReferenceIdeal) (hPre_rows_finite_targets_valid := hPre_rows_finite_targets_valid)
-- ==== Pre_rows_finite_targets_valid.lean ====
abbrev S262144x101 : Shape := ⟨2, ![262144, 101]⟩
abbrev S262144 : Shape := ⟨1, ![262144]⟩
abbrev S_ : Shape := ⟨0, ![]⟩

class Facts : Prop where
  reducesTo_S262144x101_S262144_d1 : S262144x101.ReducesTo [1] S262144
  h_S_ : 0 < S_.numel
  bcast_S_S262144 : S_.BroadcastsInDim S262144 (![] : Fin 0 → Fin S262144.rank)

variable [Facts]

def fn {F : FTy → Type} [FloatOps F] (main_arg0 : FVec F S262144x101 .f32) (main_arg1 : IVec S262144 32) : IVec S262144 1 :=
  let main_cst : FVec F S_ .f32 := constant S_ .f32 0xFF800000#32
  let main_v0 : FVec F S262144 .f32 := (fun x v => Host.reduce FloatOps.maximumf x v reducesTo_S262144x101_S262144_d1 h_S_) main_arg0 main_cst
  let main_v1 : FVec F S262144 .f32 := Host.absf main_v0
  let main_cst_0 : FVec F S_ .f32 := constant S_ .f32 0x7F800000#32
  let main_v2 : FVec F S262144 .f32 := broadcastInDim S262144 ![] bcast_S_S262144 main_cst_0
  let main_v3 : IVec S262144 1 := cmpf .olt main_v1 main_v2
  let main_c : IVec S_ 32 := constantI S_ 32 0#32
  let main_v4 : IVec S262144 32 := broadcastInDim S262144 ![] bcast_S_S262144 main_c
  let main_v5 : IVec S262144 1 := cmpi .sge main_arg1 main_v4
  let main_v6 : IVec S262144 1 := andi main_v3 main_v5
  let main_c_1 : IVec S_ 32 := constantI S_ 32 101#32
  let main_v7 : IVec S262144 32 := broadcastInDim S262144 ![] bcast_S_S262144 main_c_1
  let main_v8 : IVec S262144 1 := cmpi .slt main_arg1 main_v7
  let main_v9 : IVec S262144 1 := andi main_v6 main_v8
  main_v9
-- ==== Kernel.lean ====
abbrev S262144x101 : Shape := ⟨2, ![262144, 101]⟩
abbrev S262144 : Shape := ⟨1, ![262144]⟩
abbrev S16x128x128 : Shape := ⟨3, ![16, 128, 128]⟩
abbrev S16x8x128 : Shape := ⟨3, ![16, 8, 128]⟩
abbrev S16x1x1 : Shape := ⟨3, ![16, 1, 1]⟩
abbrev S16 : Shape := ⟨1, ![16]⟩
abbrev S_ : Shape := ⟨0, ![]⟩
abbrev S16384x101 : Shape := ⟨2, ![16384, 101]⟩
abbrev S1x128x128 : Shape := ⟨3, ![1, 128, 128]⟩
abbrev S1x8x128 : Shape := ⟨3, ![1, 8, 128]⟩
abbrev S128x128 : Shape := ⟨2, ![128, 128]⟩
abbrev S1x16384 : Shape := ⟨2, ![1, 16384]⟩
abbrev S8x101 : Shape := ⟨2, ![8, 101]⟩
abbrev S8x16384 : Shape := ⟨2, ![8, 16384]⟩
abbrev S16384x100 : Shape := ⟨2, ![16384, 100]⟩
abbrev S16384x1 : Shape := ⟨2, ![16384, 1]⟩
abbrev S1x101 : Shape := ⟨2, ![1, 101]⟩
abbrev S104x101 : Shape := ⟨2, ![104, 101]⟩
abbrev S104x16384 : Shape := ⟨2, ![104, 16384]⟩
abbrev S8x16384x1 : Shape := ⟨3, ![8, 16384, 1]⟩
abbrev S1x1x16384 : Shape := ⟨3, ![1, 1, 16384]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩

abbrev nBuf : Space → Nat
  | .hbm => 20
  | .vmem => 8
  | .smem => 0
  | _ => 0

abbrev bufTy : (tb : Table) → Fin (tcTables nBuf tb) → BufTy
  | .hbm, ⟨0, _⟩ => ⟨S262144x101, .f32⟩
  | .hbm, ⟨1, _⟩ => ⟨S262144, .i32⟩
  | .hbm, ⟨2, _⟩ => ⟨S16x128x128, .i32⟩
  | .hbm, ⟨3, _⟩ => ⟨S16x8x128, .f32⟩
  | .hbm, ⟨4, _⟩ => ⟨S16x8x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x1x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S16384x101, .f32⟩
  | .local _ .vmem, ⟨1, _⟩ => ⟨S16384x101, .f32⟩
  | .local _ .vmem, ⟨2, _⟩ => ⟨S1x128x128, .i32⟩
  | .local _ .vmem, ⟨3, _⟩ => ⟨S1x128x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S262144x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_cst_0 : Ref sig .tc := ⟨.hbm, 9, rfl⟩
abbrev main_v0_1 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_cst_2 : Ref sig .tc := ⟨.hbm, 15, rfl⟩
abbrev main_call0_v9 : Ref sig .tc := ⟨.hbm, 16, rfl⟩
abbrev main_call0_cst_3 : Ref sig .tc := ⟨.hbm, 17, rfl⟩
abbrev main_v0_2 : Ref sig .tc := ⟨.hbm, 18, rfl⟩
abbrev main_v0_0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S262144x101 : Shape := ⟨2, ![262144, 101]⟩
abbrev S262144 : Shape := ⟨1, ![262144]⟩
abbrev S_ : Shape := ⟨0, ![]⟩
abbrev S262144x1 : Shape := ⟨2, ![262144, 1]⟩
abbrev S101 : Shape := ⟨1, ![101]⟩
abbrev S1x101 : Shape := ⟨2, ![1, 101]⟩
abbrev S100 : Shape := ⟨1, ![100]⟩
abbrev S1x100 : Shape := ⟨2, ![1, 100]⟩
abbrev S262144x100 : Shape := ⟨2, ![262144, 100]⟩

abbrev nBuf : Space → Nat
  | .hbm => 78
  | .vmem => 0
  | .smem => 0
  | _ => 0

abbrev bufTy : (tb : Table) → Fin (tcTables nBuf tb) → BufTy
  | .hbm, ⟨0, _⟩ => ⟨S262144x101, .f32⟩
  | .hbm, ⟨1, _⟩ => ⟨S262144, .i32⟩
  | .hbm, ⟨2, _⟩ => ⟨S262144, .f32⟩
  | .hbm, ⟨3, _⟩ => ⟨S_, .f32⟩
  | .hbm, ⟨4, _⟩ => ⟨S262144, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144x1, .f32⟩
  | .hbm, ⟨9, _⟩ => ⟨S262144x101, .f32⟩
  | .hbm, ⟨10, _⟩ => ⟨S262144x101, .f32⟩
  | .hbm, ⟨11, _⟩ => ⟨S262144x101, .f32⟩
  | .hbm, ⟨12, _⟩ => ⟨S_, .f32⟩
  | .hbm, ⟨13, _⟩ => ⟨S262144, .f32⟩
  | .hbm, ⟨14, _⟩ => ⟨S262144x1, .f32⟩
  | .hbm, ⟨15, _⟩ => ⟨S262144x101, .f32⟩
  | .hbm, ⟨16, _⟩ => ⟨S262144x101, .f32⟩
  | .hbm, ⟨17, _⟩ => ⟨S101, .f32⟩
  | .hbm, ⟨18, _⟩ => ⟨S1x101, .f32⟩
  | .hbm, ⟨19, _⟩ => ⟨S262144x101, .f32⟩
  | .hbm, ⟨20, _⟩ => ⟨S262144x101, .f32⟩
  | .hbm, ⟨21, _⟩ => ⟨S_, .f32⟩
  | .hbm, ⟨22, _⟩ => ⟨S262144, .f32⟩
  | .hbm, ⟨23, _⟩ => ⟨S1x101, .f32⟩
  | .hbm, ⟨24, _⟩ => ⟨S262144x1, .f32⟩
  | .hbm, ⟨25, _⟩ => ⟨S262144x101, .f32⟩
  | .hbm, ⟨26, _⟩ => ⟨S262144x101, .f32⟩
  | .hbm, ⟨27, _⟩ => ⟨S262144x101, .f32⟩
  | .hbm, ⟨28, _⟩ => ⟨S262144x101, .f32⟩
  | .hbm, ⟨29, _⟩ => ⟨S262144x101, .f32⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S100, .i32⟩
  | .hbm, ⟨52, _⟩ => ⟨S1x100, .i32⟩
  | .hbm, ⟨53, _⟩ => ⟨S262144x1, .i32⟩
  | .hbm, ⟨54, _⟩ => ⟨S262144x100, .i32⟩
  | .hbm, ⟨55, _⟩ => ⟨S262144x100, .i32⟩
  | .hbm, ⟨56, _⟩ => ⟨S262144x100, .i1⟩
  | .hbm, ⟨57, _⟩ => ⟨S_, .f32⟩
  | .hbm, ⟨58, _⟩ => ⟨S_, .f32⟩
  | .hbm, ⟨59, _⟩ => ⟨S262144x100, .f32⟩
  | .hbm, ⟨60, _⟩ => ⟨S262144x100, .f32⟩
  | .hbm, ⟨61, _⟩ => ⟨S262144x100, .f32⟩
  | .hbm, ⟨62, _⟩ => ⟨S262144x100, .f32⟩
  | .hbm, ⟨63, _⟩ => ⟨S262144x100, .f32⟩
  | .hbm, ⟨64, _⟩ => ⟨S262144x100, .f32⟩
  | .hbm, ⟨65, _⟩ => ⟨S262144x100, .f32⟩
  | .hbm, ⟨66, _⟩ => ⟨S262144x100, .f32⟩
  | .hbm, ⟨67, _⟩ => ⟨S262144x100, .f32⟩
  | .hbm, ⟨68, _⟩ => ⟨S_, .f32⟩
  | .hbm, ⟨69, _⟩ => ⟨S262144x100, .f32⟩
  | .hbm, ⟨70, _⟩ => ⟨S262144x100, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S262144x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_cst_10 : Ref sig .tc := ⟨.hbm, 58, rfl⟩
abbrev main_call1_v0 : Ref sig .tc := ⟨.hbm, 59, rfl⟩
abbrev main_call1_v1 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call2_cst : Ref sig .tc := ⟨.hbm, 68, rfl⟩
abbrev main_call2_v0 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.RowMath.lean ====
module

public import Idealize.ShloMosaic.PureOps
public import Idealize.ShloMosaic.Lib.IdealHost

@[expose] public section

noncomputable section

namespace Cert.Proof

open Idealize.ShloMosaic

/-! ### The exponentials of a row as real numbers -/

/-- The exponentials of a row, as real numbers. -/
def expR (x : Fin 101 → EReal) (j : Fin 101) : ℝ := (Ideal.exp (x j)).toReal

/-- A row is good when no entry is `⊤` and some entry is a real number. -/
structure GoodRow (x : Fin 101 → EReal) : Prop where
  ne_top : ∀ j, x j ≠ ⊤
  exists_ne_bot : ∃ j, x j ≠ ⊥

/-- Away from `⊤` the exponential is a real number. -/
theorem exp_eq_coe (x : Fin 101 → EReal) (hx : GoodRow x) (j : Fin 101) :
    Ideal.exp (x j) = (expR x j : EReal) := by
  have h := hx.ne_top j
  unfold expR
  revert h
  generalize x j = y
  intro h
  induction y using EReal.rec with
  | bot => simp
  | coe r => simp
  | top => exact absurd rfl h

/-- The exponentials are nonnegative. -/
theorem expR_nonneg (x : Fin 101 → EReal) (j : Fin 101) : 0 ≤ expR x j := by
  unfold expR
  generalize x j = y
  induction y using EReal.rec with
  | bot => simp
  | coe r => simpa using (Real.exp_pos r).le
  | top => simp

/-- The sum of a good row's exponentials is positive. -/
theorem expR_sum_pos (x : Fin 101 → EReal) (hx : GoodRow x) : 0 < ∑ j, expR x j := by
  obtain ⟨j, hj⟩ := hx.exists_ne_bot
  refine Finset.sum_pos' (fun i _ => expR_nonneg x i) ⟨j, Finset.mem_univ j, ?_⟩
  have ht := hx.ne_top j
  unfold expR
  revert hj ht
  generalize x j = y
  intro hj ht
  induction y using EReal.rec with
  | bot => exact absurd rfl hj
  | coe r => simpa using Real.exp_pos r
  | top => exact absurd rfl ht

/-- Shifting an entry by a real number scales its exponential. -/
theorem exp_shift (x : Fin 101 → EReal) (hx : GoodRow x) (m : ℝ) (j : Fin 101) :
    Ideal.exp (x j - (m : EReal)) = ((expR x j * Real.exp (-m) : ℝ) : EReal) := by
  have h := hx.ne_top j
  unfold expR
  revert h
  generalize x j = y
  intro h
  induction y using EReal.rec with
  | bot => simp
  | coe r => rw [← EReal.coe_sub, Ideal.exp_coe, Ideal.exp_coe, EReal.toReal_coe, sub_eq_add_neg, Real.exp_add]
  | top => exact absurd rfl h

/-- A finite sum of real numbers, read in `EReal`. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, read in `EReal`. -/
theorem coe_max (x y : ℝ) : ((max x y : ℝ) : EReal) = max (x : EReal) (y : EReal) :=
  EReal.coe_strictMono.monotone.map_max

/-- A quotient of real numbers with nonzero denominator is the real quotient. -/
theorem div_coe_coe (x : ℝ) {y : ℝ} (h : y ≠ 0) : Ideal.div (x : EReal) (y : EReal) = ((x / y : ℝ) : EReal) := by
  rw [Ideal.div_coe h, ← EReal.coe_mul]; congr 1; ring

/-- The logarithm of a positive real number. -/
theorem log_coe_pos {y : ℝ} (h : 0 < y) : Ideal.log (y : EReal) = (Real.log y : EReal) := by
  rw [Ideal.log_coe, if_neg (not_le.mpr h)]

/-! ### The literals -/

/-- The bit pattern of one half reads as one half. -/
theorem lit_half : Ideal.ofBits .f32 1056964608#32 = ((1 / 2 : ℝ) : EReal) := by
  simp [Ideal.ofBits, Ideal.ieee, -EReal.coe_mul]; norm_num

/-- The bit pattern of two reads as two. -/
theorem lit_two : Ideal.ofBits .f32 1073741824#32 = ((2 : ℝ) : EReal) := by
  simp [Ideal.ofBits, Ideal.ieee, -EReal.coe_mul]; norm_num

/-- The bit pattern of minus one reads as minus one. -/
theorem lit_neg_one : Ideal.ofBits .f32 3212836864#32 = ((-1 : ℝ) : EReal) := by
  simp [Ideal.ofBits, Ideal.ieee, -EReal.coe_mul]; norm_num

/-- The variance floor is a positive real number. -/
theorem lit_floor : ∃ r : ℝ, 0 < r ∧ Ideal.ofBits .f32 897988541#32 = (r : EReal) := by
  refine ⟨(Ideal.ofBits .f32 897988541#32).toReal, ?_, ?_⟩ <;>
    simp [Ideal.ofBits, Ideal.ieee, -EReal.coe_mul]

/-- The variance floor as a real number. -/
def floorR : ℝ := lit_floor.choose

/-- The variance floor is positive. -/
theorem floorR_pos : 0 < floorR := lit_floor.choose_spec.1

/-- The bit pattern of the variance floor reads as that floor. -/
theorem lit_floor_eq : Ideal.ofBits .f32 897988541#32 = (floorR : EReal) := lit_floor.choose_spec.2

/-! ### The two values of a row, over the real numbers -/

/-- The mean class of the distribution proportional to `a`. -/
def meanR (a : Fin 101 → ℝ) : ℝ := ∑ k : Fin 101, a k / (∑ j, a j) * (k : ℝ)

/-- The variance of the class under the distribution proportional to `a`. -/
def varR (a : Fin 101 → ℝ) : ℝ :=
  ∑ k : Fin 101, a k / (∑ j, a j) * ((k : ℝ) - meanR a) * ((k : ℝ) - meanR a)

/-- The concentration term of one row. -/
def concR (a : Fin 101 → ℝ) (t : ℝ) : ℝ :=
  1 / 2 * Real.log (max (varR a) floorR)
    + (meanR a - t) * (meanR a - t) / (2 * max (varR a) floorR)

/-- The unimodality penalty of one row, as the reference sums it. -/
def uniR (a : Fin 101 → ℝ) (t : ℕ) : ℝ :=
  ∑ j : Fin 100, max (-(a j.castSucc / (∑ i, a i) - a j.succ / (∑ i, a i)) * (if (j : ℕ) < t then -1 else 1)) 0

/-- The mean from the first weighted sum. -/
theorem mean_eq (a : Fin 101 → ℝ) :
    (∑ k : Fin 101, (k : ℝ) * a k) * (1 / ∑ j, a j) = meanR a := by
  rw [meanR, Finset.sum_mul]
  exact Finset.sum_congr rfl fun k _ => by ring

/-- The variance is the second moment less the square of the mean. -/
theorem var_eq (a : Fin 101 → ℝ) (hS : 0 < ∑ j, a j) :
    (∑ k : Fin 101, ((k : ℝ) * (k : ℝ)) * a k) * (1 / ∑ j, a j) - meanR a * meanR a = varR a := by
  have h1 : ∑ k : Fin 101, a k / (∑ j, a j) = 1 := by
    rw [← Finset.sum_div, div_self hS.ne']
  have hm : meanR a = ∑ k : Fin 101, a k / (∑ j, a j) * (k : ℝ) := rfl
  have e : varR a = ∑ k : Fin 101, (((k : ℝ) * (k : ℝ)) * a k * (1 / ∑ j, a j)
      - 2 * meanR a * (a k / (∑ j, a j) * (k : ℝ)) + meanR a * meanR a * (a k / (∑ j, a j))) := by
    unfold varR
    exact Finset.sum_congr rfl fun k _ => by ring
  rw [e, Finset.sum_add_distrib, Finset.sum_sub_distrib, ← Finset.mul_sum, ← Finset.mul_sum, h1, ← hm,
    ← Finset.sum_mul]
  ring

/-- A telescoping sum over the steps before `t`. -/
theorem telescope (a : ℕ → ℝ) (n t : ℕ) (ht : t ≤ n) :
    ∑ j ∈ Finset.range n, (if j < t then a j - a (j + 1) else 0) = a 0 - a t := by
  rw [← Finset.sum_filter]
  have : (Finset.range n).filter (fun j => j < t) = Finset.range t := by
    ext j; simp; omega
  rw [this, Finset.sum_range_sub']

/-- Flipping the sign of a step inside the positive part costs the step itself. -/
theorem relu_flip (d : ℝ) : max d 0 = max (-d) 0 + d := by
  rcases le_total d 0 with h | h
  · rw [max_eq_right h, max_eq_left (by linarith)]; ring
  · rw [max_eq_left h, max_eq_right (by linarith)]; ring

/-- The kernel's form of the penalty: the rises of the whole row, plus first less target entry, over the sum. -/
theorem uni_eq (a : Fin 101 → ℝ) (hS : 0 < ∑ j, a j) (t : Fin 101) :
    ((∑ j : Fin 100, max (a j.succ - a j.castSucc) 0) + a 0 - a t) * (1 / ∑ j, a j) = uniR a t := by
  set S := ∑ j, a j with hSdef
  have hb : ∃ b : ℕ → ℝ, ∀ j : Fin 101, a j = b j :=
    ⟨fun n => if h : n < 101 then a ⟨n, h⟩ else 0, fun j => by simp⟩
  obtain ⟨b, hb⟩ := hb
  have tele : a 0 - a t = ∑ j : Fin 100, (if (j : ℕ) < (t : ℕ) then a j.castSucc - a j.succ else 0) := by
    have := telescope b 100 t (by omega)
    rw [Finset.sum_range] at this
    simp only [hb, Fin.val_castSucc, Fin.val_succ]
    rw [this]; rfl
  rw [add_sub_assoc, tele, ← Finset.sum_add_distrib, Finset.sum_mul, uniR]
  refine Finset.sum_congr rfl fun j _ => ?_
  have hmax : ∀ y : ℝ, max y 0 * (1 / S) = max (y * (1 / S)) 0 := fun y => by
    rw [max_mul_of_nonneg _ _ (by positivity), zero_mul]
  split_ifs with h
  · have e : -(a j.castSucc / S - a j.succ / S) * -1 = (a j.castSucc - a j.succ) * (1 / S) := by ring
    rw [e, ← hmax, relu_flip (a j.castSucc - a j.succ), neg_sub]
  · have e : -(a j.castSucc / S - a j.succ / S) * 1 = (a j.succ - a j.castSucc) * (1 / S) := by ring
    rw [e, ← hmax, add_zero]

/-! ### The kernel's expressions of a row -/

/-- The kernel's concentration term, from the weighted sums of a row's exponentials. -/
theorem conc_kernel (a : Fin 101 → ℝ) (hS : 0 < ∑ j, a j) (t : ℝ) (s s1 s2 : EReal)
    (hs : s = ((∑ j, a j : ℝ) : EReal)) (h1 : s1 = ((∑ k : Fin 101, (k : ℝ) * a k : ℝ) : EReal))
    (h2 : s2 = ((∑ k : Fin 101, ((k : ℝ) * (k : ℝ)) * a k : ℝ) : EReal)) :
    Ideal.ofBits .f32 1056964608#32 *
        Ideal.log (max (s2 * Ideal.div 1 s - s1 * Ideal.div 1 s * (s1 * Ideal.div 1 s)) (Ideal.ofBits .f32 897988541#32))
      + Ideal.div ((s1 * Ideal.div 1 s - (t : EReal)) * (s1 * Ideal.div 1 s - (t : EReal)))
        (Ideal.ofBits .f32 1073741824#32 *
          max (s2 * Ideal.div 1 s - s1 * Ideal.div 1 s * (s1 * Ideal.div 1 s)) (Ideal.ofBits .f32 897988541#32))
      = (concR a t : EReal) := by
  have hp : 0 < max (varR a) floorR := lt_max_of_lt_right floorR_pos
  have hd : Ideal.div 1 s = ((1 / ∑ j, a j : ℝ) : EReal) := by
    rw [hs, ← EReal.coe_one, div_coe_coe _ hS.ne']
  rw [hd, h1, h2, lit_half, lit_two, lit_floor_eq]
  simp only [← EReal.coe_mul, ← EReal.coe_sub]
  rw [mean_eq, var_eq a hS, ← coe_max, log_coe_pos hp, ← EReal.coe_mul, ← EReal.coe_mul,
    div_coe_coe _ (by positivity), ← EReal.coe_add]
  rfl

/-- The kernel's penalty of a row. -/
theorem uni_kernel (a : Fin 101 → ℝ) (hS : 0 < ∑ j, a j) (t : Fin 101) (s : EReal)
    (hs : s = ((∑ j, a j : ℝ) : EReal)) (w : EReal)
    (hw : w = ((∑ j : Fin 100, max (a j.succ - a j.castSucc) 0 : ℝ) : EReal)) :
    (w + (a 0 : EReal) - (a t : EReal)) * Ideal.div 1 s = (uniR a t : EReal) := by
  rw [hs, hw, ← EReal.coe_one, div_coe_coe _ hS.ne', ← EReal.coe_add, ← EReal.coe_sub, ← EReal.coe_mul,
    uni_eq a hS]

/-! ### The reference's expressions of a row -/

/-- The reference's probabilities: the shifted exponentials over their sum. -/
theorem softmax_ref (x : Fin 101 → EReal) (hx : GoodRow x) (m : ℝ) (j : Fin 101) :
    Ideal.div (Ideal.exp (x j - (m : EReal))) (∑ k, Ideal.exp (x k - (m : EReal)))
      = ((expR x j / (∑ k, expR x k) : ℝ) : EReal) := by
  have hS := expR_sum_pos x hx
  have he := Real.exp_pos (-m)
  simp only [exp_shift x hx]
  rw [coe_sum, ← Finset.sum_mul, div_coe_coe _ (by positivity)]
  congr 1
  field_simp

/-- The reference's concentration term, from a row's probabilities. -/
theorem conc_ref (a : Fin 101 → ℝ) (t : ℝ) (p : Fin 101 → EReal)
    (hp : ∀ j, p j = ((a j / (∑ k, a k) : ℝ) : EReal)) (mean var : EReal)
    (hm : mean = ∑ k : Fin 101, p k * ((k : ℝ) : EReal))
    (hv : var = ∑ k : Fin 101, p k * (((k : ℝ) : EReal) - mean) * (((k : ℝ) : EReal) - mean)) :
    Ideal.ofBits .f32 1056964608#32 * Ideal.log (max (Ideal.ofBits .f32 897988541#32) var)
      + Ideal.div ((mean - (t : EReal)) * (mean - (t : EReal)))
        (Ideal.ofBits .f32 1073741824#32 * max (Ideal.ofBits .f32 897988541#32) var)
      = (concR a t : EReal) := by
  have hmean : mean = (meanR a : EReal) := by
    rw [hm]; simp only [hp, ← EReal.coe_mul]; rw [coe_sum]; rfl
  have hvar : var = (varR a : EReal) := by
    rw [hv]; simp only [hp, hmean, ← EReal.coe_sub, ← EReal.coe_mul]; rw [coe_sum]; rfl
  have hpos : 0 < max (varR a) floorR := lt_max_of_lt_right floorR_pos
  rw [hmean, hvar, lit_half, lit_two, lit_floor_eq, max_comm, ← coe_max, log_coe_pos hpos,
    ← EReal.coe_mul, ← EReal.coe_sub, ← EReal.coe_mul, ← EReal.coe_mul,
    div_coe_coe _ (by positivity), ← EReal.coe_add]
  rfl

/-- The reference's penalty of a row, from the row's probabilities. -/
theorem uni_ref (a : Fin 101 → ℝ) (t : ℕ) (p : Fin 101 → EReal)
    (hp : ∀ j, p j = ((a j / (∑ k, a k) : ℝ) : EReal)) :
    ∑ j : Fin 100, max (-(p j.castSucc - p j.succ) * (if (j : ℕ) < t then ((-1 : ℝ) : EReal) else ((1 : ℝ) : EReal))) 0
      = (uniR a t : EReal) := by
  rw [uniR, ← coe_sum]
  refine Finset.sum_congr rfl fun j _ => ?_
  rw [hp, hp, ← EReal.coe_sub, ← EReal.coe_neg, coe_max, EReal.coe_zero]
  split_ifs <;> rw [← EReal.coe_mul]

end Cert.Proof
end
-- ==== Proof.KernelBlock.lean ====
module

public import proofs.«01_k».proof.Proof.Gen.KernelIdeal.Frame
public import proofs.«01_k».proof.Proof.RowMath
public import Idealize.ShloMosaic.Lib.Pointwise

@[expose] public section

set_option maxRecDepth 16384

noncomputable section

namespace Cert.Proof

open Idealize.ShloMosaic Cert.KernelIdeal Cert.KernelIdeal.Gen

/-! ### Small words -/

/-- A small number's word, read as a real number. -/
theorem sitofp_small (n : ℕ) (hn : n < 1000) :
    (FloatOps.sitofp FTy.f32 (BitVec.ofNat 32 n) : Ideal .f32) = (((n : ℝ)) : EReal) := by
  show (((BitVec.ofNat 32 n).toInt : ℝ) : EReal) = _
  rw [BitVec.toInt_eq_toNat_of_lt (by simp; omega), BitVec.toNat_ofNat, Nat.mod_eq_of_lt (by omega)]
  simp

/-- Small numbers have equal words only when they are equal. -/
theorem cmpi_eq_small (m n : ℕ) (hm : m < 1000) (hn : n < 1000) :
    IntOp.cmpi .eq (BitVec.ofNat 32 m) (BitVec.ofNat 32 n) = BitVec.ofBool (decide (m = n)) := by
  show BitVec.ofBool (BitVec.ofNat 32 m == BitVec.ofNat 32 n) = _
  congr 1
  have : (BitVec.ofNat 32 m = BitVec.ofNat 32 n) ↔ m = n := by
    rw [← BitVec.toNat_inj]; simp; omega
  by_cases h : m = n
  · subst h; simp
  · have h' := mt this.mp h
    simp [h, h']

/-- The signed order of small numbers' words is the order of the numbers. -/
theorem cmpi_slt_small (m n : ℕ) (hm : m < 1000) (hn : n < 1000) :
    IntOp.cmpi .slt (BitVec.ofNat 32 m) (BitVec.ofNat 32 n) = BitVec.ofBool (decide (m < n)) := by
  show BitVec.ofBool ((BitVec.ofNat 32 m).slt (BitVec.ofNat 32 n)) = _
  congr 1
  rw [BitVec.slt_eq_decide, BitVec.toInt_eq_toNat_of_lt (by simp; omega), BitVec.toInt_eq_toNat_of_lt (by simp; omega)]
  simp only [BitVec.toNat_ofNat]
  congr 1
  rw [Nat.mod_eq_of_lt (by omega), Nat.mod_eq_of_lt (by omega)]
  simp

/-- A truth value widened and read as a real number is one or zero. -/
theorem sitofp_bool (b : Bool) :
    (FloatOps.sitofp FTy.f32 (BitVec.setWidth 32 (BitVec.ofBool b)) : Ideal .f32) = if b then (1 : EReal) else 0 := by
  show (((BitVec.setWidth 32 (BitVec.ofBool b)).toInt : ℝ) : EReal) = _
  cases b <;> simp

/-! ### The rows of the first product -/

/-- Row 0 of the product: the sum of the row's exponentials. -/
theorem pay8_apply (v0 : Vec Ideal S16384x101 .f32) (r : Fin 16384) :
    k0_pay8 v0 (ix2 0 r) = ∑ k : Fin 101, Ideal.exp (v0 (ix2 r k)) := by
  pointwise [k0_pay8, k0_pay7, k0_pay6]

/-- Row 1 of the product: the exponentials weighted by their class. -/
theorem pay9_apply (v0 : Vec Ideal S16384x101 .f32) (r : Fin 16384) :
    k0_pay9 v0 (ix2 0 r) = ∑ k : Fin 101, ((k : ℝ) : EReal) * Ideal.exp (v0 (ix2 r k)) := by
  pointwise [k0_pay9, k0_pay7, k0_pay6]
  simp [IntOp.cmpi, Scalar.select]
  exact Finset.sum_congr rfl fun k _ => by rw [sitofp_small k (by omega), EReal.coe_natCast]

/-- Row 2 of the product: the exponentials weighted by the square of their class. -/
theorem pay10_apply (v0 : Vec Ideal S16384x101 .f32) (r : Fin 16384) :
    k0_pay10 v0 (ix2 0 r) = ∑ k : Fin 101, (((k : ℝ) * (k : ℝ) : ℝ) : EReal) * Ideal.exp (v0 (ix2 r k)) := by
  pointwise [k0_pay10, k0_pay7, k0_pay6]
  simp [IntOp.cmpi, Scalar.select]
  exact Finset.sum_congr rfl fun k _ => by rw [sitofp_small k (by omega), EReal.coe_natCast]

/-- Row 3 of the product: the exponential of class 0. -/
theorem pay11_apply (v0 : Vec Ideal S16384x101 .f32) (r : Fin 16384) :
    k0_pay11 v0 (ix2 0 r) = Ideal.exp (v0 (ix2 r 0)) := by
  pointwise [k0_pay11, k0_pay7, k0_pay6]
  rw [Finset.sum_eq_single (0 : Fin 101)]
  · simp [IntOp.cmpi, Scalar.select, IntOp.andi]
  · intro k _ hk
    have hk' : (k : ℕ) ≠ 0 := fun h => hk (Fin.ext h)
    rw [cmpi_eq_small k 0 (by omega) (by omega)]
    simp [IntOp.cmpi, Scalar.select, IntOp.andi, hk']
  · simp

/-! ### The rises along a row -/

/-- The second product: the sum of the positive parts of the steps along the row. -/
theorem pay14_apply (v0 : Vec Ideal S16384x101 .f32) (r : Fin 16384) :
    k0_pay14 (k0_pay12 v0) k0_pay13 (ix2 0 r)
      = ∑ j : Fin 100, max (Ideal.exp (v0 (ix2 r j.succ)) - Ideal.exp (v0 (ix2 r j.castSucc))) 0 := by
  pointwise [k0_pay14, k0_pay13, k0_pay12, k0_pay6]
  rw [cmpi_slt_small 100 100 (by omega) (by omega), sitofp_bool]
  simp only [lt_self_iff_false, decide_false, Bool.false_eq_true, if_false, mul_zero, Finset.sum_const_zero, add_zero]
  refine Finset.sum_congr rfl fun j _ => ?_
  rw [cmpi_slt_small j 100 (by omega) (by omega), sitofp_bool]
  have : (⟨1 + (j : ℕ), by omega⟩ : Fin 101) = j.succ := Fin.ext (by simp; omega)
  simp [this]
  rfl

/-! ### The target's exponential -/

/-- The third product transposes the exponentials. -/
theorem pay15_apply (v0 : Vec Ideal S16384x101 .f32) (q : Fin 104) (hq : (q : ℕ) < 101) (r : Fin 16384) :
    k0_pay15 (k0_pay6 v0) (ix2 q r) = Ideal.exp (v0 (ix2 r ⟨q, hq⟩)) := by
  pointwise [k0_pay15, k0_pay6]
  rw [Finset.sum_eq_single (⟨q, hq⟩ : Fin 101)]
  · rw [cmpi_eq_small q q (by omega) (by omega), sitofp_bool]; simp
  · intro k _ hk
    have hk' : (q : ℕ) ≠ k := fun h => hk (Fin.ext h.symm)
    rw [cmpi_eq_small q k (by omega) (by omega), sitofp_bool]; simp [hk']
  · simp

/-- The slabs' selection and the gather inside the slab pick the entry at the target. -/
theorem pick (E : Fin 104 → EReal) (t : ℕ) (ht : t < 101) (H : ∀ n, n % 8 < 104)
    (sel : BitVec 32) (hsel : sel = BitVec.ofNat 32 (t / 8)) (g : ℕ) (hg : g = t % 8)
    (h0 h1 h2 h3 h4 h5 h6 h7 h8 h9 h10 h11 h12) :
    Scalar.select (IntOp.cmpi .eq sel 12#32) (E ⟨96 + g, h12⟩)
     (Scalar.select (IntOp.cmpi .eq sel 11#32) (E ⟨88 + g, h11⟩)
      (Scalar.select (IntOp.cmpi .eq sel 10#32) (E ⟨80 + g, h10⟩)
       (Scalar.select (IntOp.cmpi .eq sel 9#32) (E ⟨72 + g, h9⟩)
        (Scalar.select (IntOp.cmpi .eq sel 8#32) (E ⟨64 + g, h8⟩)
         (Scalar.select (IntOp.cmpi .eq sel 7#32) (E ⟨56 + g, h7⟩)
          (Scalar.select (IntOp.cmpi .eq sel 6#32) (E ⟨48 + g, h6⟩)
           (Scalar.select (IntOp.cmpi .eq sel 5#32) (E ⟨40 + g, h5⟩)
            (Scalar.select (IntOp.cmpi .eq sel 4#32) (E ⟨32 + g, h4⟩)
             (Scalar.select (IntOp.cmpi .eq sel 3#32) (E ⟨24 + g, h3⟩)
              (Scalar.select (IntOp.cmpi .eq sel 2#32) (E ⟨16 + g, h2⟩)
               (Scalar.select (IntOp.cmpi .eq sel 1#32) (E ⟨8 + g, h1⟩) (E ⟨g, h0⟩)))))))))))) = E ⟨t, by omega⟩ := by
  subst hsel hg
  obtain ⟨d, hd⟩ : ∃ d, d = t / 8 := ⟨_, rfl⟩
  have hd' : d < 13 := by omega
  rw [← hd]
  interval_cases d <;> simp [IntOp.cmpi, Scalar.select] <;> (congr 1; ext; simp; omega)

/-- A target in range, shifted right by three: which slab. -/
theorem shr3 (t : ℕ) (ht : t < 101) : IntOp.shrui ArithUnit.vector (BitVec.ofNat 32 t) 3#32 = BitVec.ofNat 32 (t / 8) := by
  interval_cases t <;> rfl

/-- A target in range, its low three bits: which row of the slab. -/
theorem low3 (t : ℕ) (ht : t < 101) :
    (Scalar.select (IntOp.cmpi .slt (IntOp.andi (BitVec.ofNat 32 t) 7#32) 0#32) (IntOp.addi (IntOp.andi (BitVec.ofNat 32 t) 7#32) 8#32)
      (IntOp.andi (BitVec.ofNat 32 t) 7#32)).toNat % 8 = t % 8 := by
  interval_cases t <;> rfl

/-- The target's exponential. -/
theorem pay20_apply (v0 : Vec Ideal S16384x101 .f32) (w : IVec S1x16384 32) (r : Fin 16384) (t : Fin 101)
    (hw : w (ix2 0 r) = BitVec.ofNat 32 t) :
    k0_pay20 (k0_pay15 (k0_pay6 v0)) (k0_pay16 w) (k0_pay17 w) (k0_pay18 w (k0_pay6 v0)) (k0_pay19 w) (ix2 0 r)
      = Ideal.exp (v0 (ix2 r t)) := by
  rw [← pay15_apply v0 ⟨t, by omega⟩ t.2 r]
  generalize k0_pay6 v0 = e
  have h16 : k0_pay16 w (ix2 0 r) = BitVec.ofNat 32 (t / 8) := by
    rw [← shr3 t t.2, ← hw]
    pointwise [k0_pay16]
  have hlow := low3 t t.2
  rw [← hw] at hlow
  pointwise [k0_pay20, k0_pay17, k0_pay18, k0_pay19]
  exact pick (fun q => k0_pay15 e (ix2 q r)) t t.2 (by omega) _ h16 _ hlow _ _ _ _ _ _ _ _ _ _ _ _ _

/-! ### The two blocks written by a step -/

/-- A row of a block of predictions. -/
def rowOf (x0 : Vec Ideal S16384x101 .f32) (r : Fin 16384) : Fin 101 → EReal := fun k => x0 (ix2 r k)

/-- The word of a row's target in a block of targets. -/
def tgtOf (x1 : Vec Ideal S1x128x128 .i32) (r : Fin 16384) : BitVec 32 :=
  x1 (ix3 0 ⟨(r : ℕ) / 128, by omega⟩ ⟨(r : ℕ) % 128, by omega⟩)

/-- The targets of a block, flattened. -/
theorem pay4_apply (x1 : Vec Ideal S1x128x128 .i32) (r : Fin 16384) :
    k0_pay4 (F := Ideal) x1 (ix2 0 r) = tgtOf x1 r := by
  unfold tgtOf
  pointwise [k0_pay4]

/-- The concentration block: every entry is the sum of the block's concentration terms. -/
theorem pay2_block (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (p : Fin 8) (q : Fin 128) :
    k0_pay2 (k0_pay5 x1) (k0_pay8 x0) (k0_pay9 x0) (k0_pay10 x0) (Scalar.ofBits .f32 0x3F800000#32) (ix3 0 p q)
      = ((∑ r : Fin 16384, concR (expR (rowOf x0 r)) (t r : ℕ) : ℝ) : EReal) := by
  have h5 : ∀ r, k0_pay5 (F := Ideal) x1 (ix2 0 r) = (((t r : ℕ) : ℝ) : EReal) := fun r => by
    rw [← sitofp_small (t r) (by omega), ← ht r, tgtOf]
    pointwise [k0_pay5, k0_pay4]
  have h8 : ∀ r, k0_pay8 x0 (ix2 0 r) = ((∑ j, expR (rowOf x0 r) j : ℝ) : EReal) := fun r => by
    rw [pay8_apply, ← coe_sum]
    exact Finset.sum_congr rfl fun k _ => exp_eq_coe (rowOf x0 r) (hx r) k
  have h9 : ∀ r, k0_pay9 x0 (ix2 0 r) = ((∑ k : Fin 101, (k : ℝ) * expR (rowOf x0 r) k : ℝ) : EReal) := fun r => by
    rw [pay9_apply, ← coe_sum]
    exact Finset.sum_congr rfl fun k _ => by rw [EReal.coe_mul, ← exp_eq_coe (rowOf x0 r) (hx r) k]; rfl
  have h10 : ∀ r, k0_pay10 x0 (ix2 0 r) = ((∑ k : Fin 101, ((k : ℝ) * (k : ℝ)) * expR (rowOf x0 r) k : ℝ) : EReal) := fun r => by
    rw [pay10_apply, ← coe_sum]
    exact Finset.sum_congr rfl fun k _ => by rw [EReal.coe_mul (_ * _) (expR _ _), ← exp_eq_coe (rowOf x0 r) (hx r) k]; rfl
  generalize k0_pay5 (F := Ideal) x1 = w5 at h5 ⊢
  generalize k0_pay8 x0 = w8 at h8 ⊢
  generalize k0_pay9 x0 = w9 at h9 ⊢
  generalize k0_pay10 x0 = w10 at h10 ⊢
  have hone : (Scalar.ofBits .f32 0x3F800000#32 : Ideal .f32) = 1 := Ideal.ofBits_one_f32
  rw [hone]
  pointwise [k0_pay2, k0_pay1]
  rw [Fin.sum_univ_one, ← coe_sum]
  refine Finset.sum_congr rfl fun r _ => ?_
  rw [← conc_kernel (expR (rowOf x0 r)) (expR_sum_pos _ (hx r)) (t r : ℕ) _ _ _ (h8 r) (h9 r) (h10 r), h5 r]

/-- The penalty block: every entry is the sum of the block's penalties. -/
theorem pay3_block (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (p : Fin 8) (q : Fin 128) :
    k0_pay3 (k0_pay8 x0) (k0_pay11 x0) (k0_pay14 (k0_pay12 x0) k0_pay13)
      (k0_pay20 (k0_pay15 (k0_pay6 x0)) (k0_pay16 (k0_pay4 (F := Ideal) x1)) (k0_pay17 (k0_pay4 (F := Ideal) x1))
        (k0_pay18 (k0_pay4 (F := Ideal) x1) (k0_pay6 x0)) (k0_pay19 (k0_pay4 (F := Ideal) x1)))
      (Scalar.ofBits .f32 0x3F800000#32) (ix3 0 p q)
      = ((∑ r : Fin 16384, uniR (expR (rowOf x0 r)) (t r) : ℝ) : EReal) := by
  have h8 : ∀ r, k0_pay8 x0 (ix2 0 r) = ((∑ j, expR (rowOf x0 r) j : ℝ) : EReal) := fun r => by
    rw [pay8_apply, ← coe_sum]
    exact Finset.sum_congr rfl fun k _ => exp_eq_coe (rowOf x0 r) (hx r) k
  have h11 : ∀ r, k0_pay11 x0 (ix2 0 r) = (expR (rowOf x0 r) 0 : EReal) := fun r => by
    rw [pay11_apply, ← exp_eq_coe (rowOf x0 r) (hx r) 0]; rfl
  have h14 : ∀ r, k0_pay14 (k0_pay12 x0) k0_pay13 (ix2 0 r)
      = ((∑ j : Fin 100, max (expR (rowOf x0 r) j.succ - expR (rowOf x0 r) j.castSucc) 0 : ℝ) : EReal) := fun r => by
    rw [pay14_apply, ← coe_sum]
    refine Finset.sum_congr rfl fun k _ => ?_
    rw [coe_max, EReal.coe_sub, EReal.coe_zero, ← exp_eq_coe (rowOf x0 r) (hx r), ← exp_eq_coe (rowOf x0 r) (hx r)]
    rfl
  have h20 := fun r => (pay20_apply x0 (k0_pay4 (F := Ideal) x1) r (t r) ((pay4_apply x1 r).trans (ht r))).trans
    (exp_eq_coe (rowOf x0 r) (hx r) (t r))
  generalize k0_pay20 (k0_pay15 (k0_pay6 x0)) (k0_pay16 (k0_pay4 (F := Ideal) x1)) (k0_pay17 (k0_pay4 (F := Ideal) x1))
    (k0_pay18 (k0_pay4 (F := Ideal) x1) (k0_pay6 x0)) (k0_pay19 (k0_pay4 (F := Ideal) x1)) = w20 at h20 ⊢
  generalize k0_pay8 x0 = w8 at h8 ⊢
  generalize k0_pay14 (k0_pay12 x0) k0_pay13 = w14 at h14 ⊢
  generalize k0_pay11 x0 = w11 at h11 ⊢
  have hone : (Scalar.ofBits .f32 0x3F800000#32 : Ideal .f32) = 1 := Ideal.ofBits_one_f32
  rw [hone]
  pointwise [k0_pay3, k0_pay1]
  rw [Fin.sum_univ_one, ← coe_sum]
  refine Finset.sum_congr rfl fun r _ => ?_
  rw [← uni_kernel (expR (rowOf x0 r)) (expR_sum_pos _ (hx r)) (t r) _ (h8 r) _ (h14 r), h11 r, h20 r]

/-- The literal pair of zeros is the zero offset. -/
theorem zeros2 : (![0, 0] : Fin 2 → Nat) = fun _ => 0 := funext fun a => by fin_cases a <;> rfl

/-- The literal triple of zeros is the zero offset. -/
theorem zeros3 : (![0, 0, 0] : Fin 3 → Nat) = fun _ => 0 := funext fun a => by fin_cases a <;> rfl

/-- The step's first output block. -/
theorem out0_2_eq (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (p : Fin 8) (q : Fin 128) :
    out0_2 x0 x1 (ix3 0 p q) = ((∑ r : Fin 16384, concR (expR (rowOf x0 r)) (t r : ℕ) : ℝ) : EReal) := by
  rw [← pay2_block x0 x1 t hx ht p q]
  unfold out0_2 k0_pay23
  rw [View.canon_unit_zero (S := S1x8x128) zeros3, View.ld_unit_zero (S := S16384x101) zeros2,
    View.ld_unit_zero (S := S1x128x128) zeros3]

/-- The step's second output block. -/
theorem out0_3_eq (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (p : Fin 8) (q : Fin 128) :
    out0_3 x0 x1 (ix3 0 p q) = ((∑ r : Fin 16384, uniR (expR (rowOf x0 r)) (t r) : ℝ) : EReal) := by
  rw [← pay3_block x0 x1 t hx ht p q]
  unfold out0_3 k0_pay23 k0_pay22 k0_pay21
  rw [View.canon_unit_zero (S := S1x8x128) zeros3, View.ld_unit_zero (S := S16384x101) zeros2,
    View.ld_unit_zero (S := S1x128x128) zeros3]

end Cert.Proof
end
-- ==== Proof.KernelRun.lean ====
module

public import proofs.«01_k».proof.Proof.KernelBlock
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

/-! ### The rows of the whole arrays -/

/-- A row of the array of predictions. -/
def gRow (x : Vec Ideal S262144x101 .f32) (i : Fin 262144) : Fin 101 → EReal := fun k => x (ix2 i k)

/-- The row of the array that is row `r` of block `b`. -/
def gidx (b : Fin 16) (r : Fin 16384) : Fin 262144 := ⟨16384 * (b : ℕ) + r, by omega⟩

/-- Summing block by block sums every row once. -/
theorem sum_blocks (f : Fin 262144 → ℝ) : ∑ b : Fin 16, ∑ r : Fin 16384, f (gidx b r) = ∑ i, f i := by
  rw [← Fintype.sum_prod_type']
  refine Fintype.sum_equiv (finProdFinEquiv.trans (finCongr (by norm_num : 16 * 16384 = 262144))) _ _ fun p => ?_
  congr 1
  ext
  simp [gidx, finProdFinEquiv]
  omega

variable (m : (ℓ : Loc nD τ sig) → Buf (Elt Ideal) ℓ)

/-- The array of predictions at launch. -/
abbrev argX (c : Dev nD) : Vec Ideal S262144x101 .f32 := m ((c : Thread nD τ).loc main_arg0)

/-- The array of targets at launch. -/
abbrev argT (c : Dev nD) : IVec S262144 32 := m ((c : Thread nD τ).loc main_arg1)

/-- The number of a grid point. -/
def pt (t : Fin cfg0.N) : Fin 16 := ⟨t.val, N_0 ▸ t.isLt⟩

/-- Grid point `t` reads block `t` of the rows of logits. -/
theorem index0 : ∀ t : Fin cfg0.N, win0_0.index t = ![t.val, 0] := (by decide +kernel : ∀ t : Fin grid0.N, _)
/-- Grid point `t` reads block `t` of the targets. -/
theorem index1 : ∀ t : Fin cfg0.N, win0_1.index t = ![t.val, 0, 0] := (by decide +kernel : ∀ t : Fin grid0.N, _)
/-- Grid point `t` writes block `t` of the concentration partial sums. -/
theorem index2 : ∀ t : Fin cfg0.N, win0_2.index t = ![t.val, 0, 0] := (by decide +kernel : ∀ t : Fin grid0.N, _)
/-- Grid point `t` writes block `t` of the penalty partial sums. -/
theorem index3 : ∀ t : Fin cfg0.N, win0_3.index t = ![t.val, 0, 0] := (by decide +kernel : ∀ t : Fin grid0.N, _)

/-- The rows of a block of predictions are rows of the array. -/
theorem rowOf_iblk (c : Dev nD) (t : Fin cfg0.N) (r : Fin 16384) :
    rowOf (iblk m c 0 t) r = gRow (argX m c) (gidx (pt t) r) := by
  funext k
  unfold rowOf gRow argX
  rw [← V_main_arg0 m c]
  blk_simp [iblk]
  refine congrArg _ ?_
  blk_ext [index0, gidx, pt]

/-- The region finds the targets reshaped. -/
theorem V_targets (c : Dev nD) :
    (V m c main_call0_v0 : IVec S16x128x128 32) = shapeCast S16x128x128 (argT m c) shapeCasts_S262144_S16x128x128 := by
  entry_read
  rfl

/-- The targets of a block are targets of the array. -/
theorem tgtOf_iblk (c : Dev nD) (t : Fin cfg0.N) (r : Fin 16384) :
    tgtOf (iblk m c 1 t) r = argT m c (ix1 (gidx (pt t) r)) := by
  have e : ∀ y, iblk m c 1 t y = (V m c main_call0_v0 : IVec S16x128x128 32) ((win0_1.blk t).view.emb y) := fun y => rfl
  have h : (win0_1.blk t).view.emb (ix3 0 ⟨(r : ℕ) / 128, by omega⟩ ⟨(r : ℕ) % 128, by omega⟩)
      = ix3 (pt t) ⟨(r : ℕ) / 128, by omega⟩ ⟨(r : ℕ) % 128, by omega⟩ := by
    blk_ext [index1, pt]
  unfold tgtOf
  rw [e, h, V_targets]
  generalize argT m c = T
  pointwise
  refine congrArg _ (congrArg ix1 ?_)
  ext
  simp only [gidx]
  omega

/-! ### The two result arrays of the region -/

/-- What the concentration array holds: each block's entries are the block's sum. -/
def concArr (x : Vec Ideal S262144x101 .f32) (tt : Fin 262144 → Fin 101) : Vec Ideal S16x8x128 .f32 := fun y =>
  ((∑ r : Fin 16384, concR (expR (gRow x (gidx (y 0) r))) (tt (gidx (y 0) r) : ℕ) : ℝ) : EReal)

/-- What the penalty array holds: each block's entries are the block's sum. -/
def uniArr (x : Vec Ideal S262144x101 .f32) (tt : Fin 262144 → Fin 101) : Vec Ideal S16x8x128 .f32 := fun y =>
  ((∑ r : Fin 16384, uniR (expR (gRow x (gidx (y 0) r))) (tt (gidx (y 0) r)) : ℝ) : EReal)

/-- An index of an output block names its last two coordinates. -/
theorem block_idx (y : S1x8x128.Idx) : y = ix3 0 (y 1) (y 2) := by
  idx_vars y
  obtain rfl : y0 = 0 := Subsingleton.elim _ _
  rfl

/-- The first output block at any index. -/
theorem out0_2_at (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (y : S1x8x128.Idx) :
    out0_2 x0 x1 y = ((∑ r : Fin 16384, concR (expR (rowOf x0 r)) (t r : ℕ) : ℝ) : EReal) := by
  rw [block_idx y]; exact out0_2_eq x0 x1 t hx ht _ _

/-- The second output block at any index. -/
theorem out0_3_at (x0 : Vec Ideal S16384x101 .f32) (x1 : Vec Ideal S1x128x128 .i32) (t : Fin 16384 → Fin 101)
    (hx : ∀ r, GoodRow (rowOf x0 r)) (ht : ∀ r, tgtOf x1 r = BitVec.ofNat 32 (t r)) (y : S1x8x128.Idx) :
    out0_3 x0 x1 y = ((∑ r : Fin 16384, uniR (expR (rowOf x0 r)) (t r) : ℝ) : EReal) := by
  rw [block_idx y]; exact out0_3_eq x0 x1 t hx ht _ _

section Arrays
variable (c : Dev nD) (tt : Fin 262144 → Fin 101) (hx : ∀ i, GoodRow (gRow (argX m c) i))
  (ht : ∀ i, argT m c (ix1 i) = BitVec.ofNat 32 (tt i))
include hx ht

/-- The concentration array after the region. -/
theorem arr2 : (dats m 0 c).arrAt 2 cfg0.N = concArr (argX m c) tt := by
  refine (dats m 0 c).arrAt_eq_of_covers 2 _ (by decide +kernel) fun t hf y => ?_
  blk_simp
  rw [after0_2]
  have he : ((win0_2.blk t).view.emb y) 0 = pt t := by
    ext
    blk_simp [index2, pt]
  show _ = concArr (argX m c) tt ((win0_2.blk t).view.emb y)
  unfold concArr
  rw [he]
  refine (out0_2_at (iblk m c 0 t) (iblk m c 1 t) (fun r => tt (gidx (pt t) r))
    (fun r => by rw [rowOf_iblk]; exact hx _) (fun r => by rw [tgtOf_iblk]; exact ht _) y).trans ?_
  simp only [rowOf_iblk]

/-- The penalty array after the region. -/
theorem arr3 : (dats m 0 c).arrAt 3 cfg0.N = uniArr (argX m c) tt := by
  refine (dats m 0 c).arrAt_eq_of_covers 3 _ (by decide +kernel) fun t hf y => ?_
  blk_simp
  rw [after0_3]
  have he : ((win0_3.blk t).view.emb y) 0 = pt t := by
    ext
    blk_simp [index3, pt]
  show _ = uniArr (argX m c) tt ((win0_3.blk t).view.emb y)
  unfold uniArr
  rw [he]
  refine (out0_3_at (iblk m c 0 t) (iblk m c 1 t) (fun r => tt (gidx (pt t) r))
    (fun r => by rw [rowOf_iblk]; exact hx _) (fun r => by rw [tgtOf_iblk]; exact ht _) y).trans ?_
  simp only [rowOf_iblk]

end Arrays

/-! ### The host operations after the region -/

/-- A block sum's first entries summed and divided by the number of rows. -/
def meanOf (A : FVec Ideal S16x8x128 .f32) : FVec Ideal S_ .f32 :=
  Host.divf (Host.reduceAdd (shapeCast S16 (extractStridedSlice S16x1x1 ![0, 0, 0] A slices_S16x8x128_S16x1x1_0_0_0) shapeCasts_S16x1x1_S16)
    (constant S_ .f32 0x00000000#32) reducesTo_S16_S_d0 h_S_) (constant S_ .f32 0x48800000#32)

/-- The second result: the mean of the concentration terms. -/
theorem tail_1 (c : Dev nD) : Pipeline.afterTail₀ cfgs (dats m) 0 (V0 m) [hostOps1] c main_v0_1
    = meanOf ((dats m 0 c).arrAt 2 cfg0.N) := by
  unfold Pipeline.afterTail₀
  generalize hW : Pipeline.withArrays _ c (V0 m c) _ = W
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results
  have h2 : W (Proc.devRef .tc main_call0_v1_0) = (dats m 0 c).arrAt 2 cfg0.N := by
    rw [← hW]; exact Pipeline.withArrays_arr (cfgs 0).spec launch0.win.arr_inj c (V0 m c) _ 2
  rw [h2]
  rfl

/-- The third result: a thousand times the mean of the penalties. -/
theorem tail_2 (c : Dev nD) : Pipeline.afterTail₀ cfgs (dats m) 0 (V0 m) [hostOps1] c main_v0_2
    = mulf (constant (F := Ideal) S_ .f32 0x447A0000#32) (meanOf ((dats m 0 c).arrAt 3 cfg0.N)) := by
  unfold Pipeline.afterTail₀
  generalize hW : Pipeline.withArrays _ c (V0 m c) _ = W
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results
  have h3 : W (Proc.devRef .tc main_call0_v1_1) = (dats m 0 c).arrAt 3 cfg0.N := by
    rw [← hW]; exact Pipeline.withArrays_arr (cfgs 0).spec launch0.win.arr_inj c (V0 m c) _ 3
  rw [h3]
  rfl

/-- The first result: the sum of the other two. -/
theorem tail_0 (c : Dev nD) : Pipeline.afterTail₀ cfgs (dats m) 0 (V0 m) [hostOps1] c main_v0_0
    = addf (meanOf ((dats m 0 c).arrAt 2 cfg0.N))
      (mulf (constant (F := Ideal) S_ .f32 0x447A0000#32) (meanOf ((dats m 0 c).arrAt 3 cfg0.N))) := by
  unfold Pipeline.afterTail₀
  generalize hW : Pipeline.withArrays _ c (V0 m c) _ = W
  simp only [hostOps1, List.flatten_cons, List.flatten_nil, List.append_nil, StableHlo.TRef.reshape, StableHlo.TRef.binary,
    StableHlo.TRef.nullary, StableHlo.TRef.unary, StableHlo.TRef.toBuf, StableHlo.TRef.ofBuf, cast_eq]
  after_results
  have h2 : W (Proc.devRef .tc main_call0_v1_0) = (dats m 0 c).arrAt 2 cfg0.N := by
    rw [← hW]; exact Pipeline.withArrays_arr (cfgs 0).spec launch0.win.arr_inj c (V0 m c) _ 2
  have h3 : W (Proc.devRef .tc main_call0_v1_1) = (dats m 0 c).arrAt 3 cfg0.N := by
    rw [← hW]; exact Pipeline.withArrays_arr (cfgs 0).spec launch0.win.arr_inj c (V0 m c) _ 3
  rw [h2, h3]
  rfl

/-- The mean of the concentration terms over every row. -/
theorem meanOf_conc (x : Vec Ideal S262144x101 .f32) (tt : Fin 262144 → Fin 101) :
    meanOf (concArr x tt) = fun _ => Ideal.div ((∑ i, concR (expR (gRow x i)) (tt i : ℕ) : ℝ) : EReal) (Ideal.ofBits .f32 0x48800000#32) := by
  funext j
  unfold meanOf
  pointwise
  rw [← sum_blocks, ← coe_sum]
  rfl

/-- The mean of the penalties over every row. -/
theorem meanOf_uni (x : Vec Ideal S262144x101 .f32) (tt : Fin 262144 → Fin 101) :
    meanOf (uniArr x tt) = fun _ => Ideal.div ((∑ i, uniR (expR (gRow x i)) (tt i) : ℝ) : EReal) (Ideal.ofBits .f32 0x48800000#32) := by
  funext j
  unfold meanOf
  pointwise
  rw [← sum_blocks, ← coe_sum]
  rfl

/-! ### The kernel's results -/

/-- The mean concentration term. -/
def concMean (x : Vec Ideal S262144x101 .f32) (tt : Fin 262144 → Fin 101) : EReal :=
  Ideal.div ((∑ i, concR (expR (gRow x i)) (tt i : ℕ) : ℝ) : EReal) (Ideal.ofBits .f32 0x48800000#32)

/-- The weighted mean penalty. -/
def uniMean (x : Vec Ideal S262144x101 .f32) (tt : Fin 262144 → Fin 101) : EReal :=
  Ideal.ofBits .f32 0x447A0000#32
    * Ideal.div ((∑ i, uniR (expR (gRow x i)) (tt i) : ℝ) : EReal) (Ideal.ofBits .f32 0x48800000#32)

/-- The kernel's run: the three results in closed form, the arguments unchanged. -/
theorem kernel_run (ρ : Dev nD → PrngReg) (tt : Dev nD → Fin 262144 → Fin 101)
    (hx : ∀ c i, GoodRow (gRow (argX m c) i)) (ht : ∀ c i, argT m c (ix1 i) = BitVec.ofNat 32 (tt c i)) :
    θ_run defs (onTc (τ := τ) (main (F := Ideal))) ⟨m, fun _ => 0, ρ⟩ fun r => ∀ c : Dev nD,
      r.2.mem ((c.tc : Thread nD τ).loc main_v0_0) = (fun _ => concMean (argX m c) (tt c) + uniMean (argX m c) (tt c) : FVec Ideal S_ .f32)
      ∧ r.2.mem ((c.tc : Thread nD τ).loc main_v0_1) = (fun _ => concMean (argX m c) (tt c) : FVec Ideal S_ .f32)
      ∧ r.2.mem ((c.tc : Thread nD τ).loc main_v0_2) = (fun _ => uniMean (argX m c) (tt c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_, ?_, ?_⟩) (run_main m ρ)
  · refine ((h c).2 main_v0_0 (Pipeline.mem_restRefs_of main_v0_0 (by decide) (by decide))).trans ?_
    rw [tail_0, arr2 m c (tt c) (hx c) (ht c), arr3 m c (tt c) (hx c) (ht c), meanOf_conc, meanOf_uni]
    rfl
  · refine ((h c).2 main_v0_1 (Pipeline.mem_restRefs_of main_v0_1 (by decide) (by decide))).trans ?_
    rw [tail_1, arr2 m c (tt c) (hx c) (ht c), meanOf_conc]
    rfl
  · refine ((h c).2 main_v0_2 (Pipeline.mem_restRefs_of main_v0_2 (by decide) (by decide))).trans ?_
    rw [tail_2, arr3 m c (tt c) (hx c) (ht c), meanOf_uni]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.Proof
end
-- ==== Proof.RefValue.lean ====
module

public import proofs.«01_k».proof.Proof.Gen.ReferenceIdeal.Run
public import proofs.«01_k».proof.Proof.Gen.ReferenceIdeal.Read
public import proofs.«01_k».proof.Proof.KernelRun
public import proofs.«01_k».proof.Pre_rows_finite_targets_valid

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

/-- The bit pattern of minus infinity reads as the least extended real. -/
theorem lit_neg_inf : Ideal.ofBits .f32 0xFF800000#32 = ⊥ := by
  simp [Ideal.ofBits, Ideal.ieee]

/-- The bit pattern of plus infinity reads as the greatest extended real. -/
theorem lit_pos_inf : Ideal.ofBits .f32 0x7F800000#32 = ⊤ := by
  simp [Ideal.ofBits, Ideal.ieee]

/-- The row maximum the reference takes, as the supremum of the row. -/
theorem rowmax_apply (x : Vec Ideal S262144x101 .f32) (i : Fin 262144) :
    val_main_v1 (F := Ideal) x (ix1 i) = Finset.univ.sup (gRow x i) := by
  pointwise [val_main_v1, val_main_cst]
  rw [lit_neg_inf]
  rfl

/-- The row maximum guarded from below by minus infinity, as the reference writes it. -/
theorem guard_apply (x : Vec Ideal S262144x101 .f32) (i : Fin 262144) :
    val_main_v3 (F := Ideal) x (ix1 i) = max (Ideal.ofBits .f32 0xFF800000#32) (val_main_v1 (F := Ideal) x (ix1 i)) := by
  rw [val_main_v3_apply, val_main_v2_apply, val_main_cst_0_apply, Ideal.maximumf_def, Ideal.ofBits_def]

/-- The shifted exponential, from the guarded row maximum. -/
theorem shift_apply (x : Vec Ideal S262144x101 .f32) (i : Fin 262144) (j : Fin 101) :
    val_main_v7 (F := Ideal) x (ix2 i j)
      = Ideal.exp (x (ix2 i j) - val_main_v3 (F := Ideal) x (ix1 i)) := by
  unfold val_main_v7 val_main_v6 val_main_v5 val_main_v4
  generalize val_main_v3 (F := Ideal) x = M
  pointwise

/-- The shifted exponential the reference computes, from the row's supremum. -/
theorem shiftExp_apply (x : Vec Ideal S262144x101 .f32) (i : Fin 262144) (j : Fin 101) :
    val_main_v7 (F := Ideal) x (ix2 i j)
      = Ideal.exp (gRow x i j - Finset.univ.sup (gRow x i)) := by
  rw [shift_apply, guard_apply, rowmax_apply, lit_neg_inf, max_eq_right bot_le]
  rfl

/-- The sum of a row of shifted exponentials. -/
theorem sumExp_apply (x : Vec Ideal S262144x101 .f32) (i : Fin 262144) :
    val_main_v8 (F := Ideal) x (ix1 i) = ∑ k : Fin 101, val_main_v7 (F := Ideal) x (ix2 i k) := by
  unfold val_main_v8 val_main_cst_1
  generalize val_main_v7 (F := Ideal) x = e
  pointwise

/-- The quotient of a shifted exponential by its row sum. -/
theorem quot_apply (x : Vec Ideal S262144x101 .f32) (i : Fin 262144) (j : Fin 101) :
    val_main_v11 (F := Ideal) x (ix2 i j)
      = Ideal.div (val_main_v7 (F := Ideal) x (ix2 i j)) (val_main_v8 (F := Ideal) x (ix1 i)) := by
  unfold val_main_v11 val_main_v10 val_main_v9
  generalize val_main_v7 (F := Ideal) x = e
  generalize val_main_v8 (F := Ideal) x = q
  pointwise

/-- The probability the reference computes, from the row maximum. -/
theorem prob_apply (x : Vec Ideal S262144x101 .f32) (i : Fin 262144) (j : Fin 101) :
    val_main_v11 (F := Ideal) x (ix2 i j)
      = Ideal.div (Ideal.exp (gRow x i j - Finset.univ.sup (gRow x i)))
          (∑ k, Ideal.exp (gRow x i k - Finset.univ.sup (gRow x i))) := by
  rw [quot_apply, sumExp_apply]
  simp only [shiftExp_apply]

/-- The mean class the reference computes for a row, from the probabilities. -/
def refMean (p : FVec Ideal S262144x101 .f32) (i : Fin 262144) : EReal :=
  ∑ k : Fin 101, p (ix2 i k) * FloatOps.sitofp (F := Ideal) .f32 (BitVec.ofNat 32 (k : ℕ))

/-- The variance the reference computes for a row, from the probabilities. -/
def refVar (p : FVec Ideal S262144x101 .f32) (i : Fin 262144) : EReal :=
  ∑ k : Fin 101, p (ix2 i k) * (FloatOps.sitofp (F := Ideal) .f32 (BitVec.ofNat 32 (k : ℕ)) - refMean p i)
    * (FloatOps.sitofp (F := Ideal) .f32 (BitVec.ofNat 32 (k : ℕ)) - refMean p i)

/-- The concentration term of a row as the reference computes it. -/
theorem concRow_apply (x : Vec Ideal S262144x101 .f32) (t : IVec S262144 32) (i : Fin 262144) :
    val_main_v34 (F := Ideal) x t (ix1 i)
      = Ideal.ofBits .f32 1056964608#32
          * Ideal.log (max (Ideal.ofBits .f32 897988541#32) (refVar (val_main_v11 (F := Ideal) x) i))
        + Ideal.div
          ((refMean (val_main_v11 (F := Ideal) x) i - FloatOps.sitofp (F := Ideal) .f32 (t (ix1 i)))
            * (refMean (val_main_v11 (F := Ideal) x) i - FloatOps.sitofp (F := Ideal) .f32 (t (ix1 i))))
          (Ideal.ofBits .f32 1073741824#32
            * max (Ideal.ofBits .f32 897988541#32) (refVar (val_main_v11 (F := Ideal) x) i)) := by
  unfold val_main_v34 val_main_v33 val_main_v32 val_main_v30 val_main_v31 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v0 val_main_call0_v1 val_main_call0_v0 val_main_cst_2 val_main_cst_3 val_main_cst_4 val_main_cst_5 val_main_cst_6
  generalize val_main_v11 (F := Ideal) x = p
  simp only [id_eq, refVar, refMean]
  pointwise

/-- The unimodality term of a row and class as the reference computes it. -/
theorem uniTerm_apply (x : Vec Ideal S262144x101 .f32) (t : IVec S262144 32) (i : Fin 262144) (j : Fin 100) :
    val_main_v50 (F := Ideal) x t (ix2 i j)
      = max (-(val_main_v11 (F := Ideal) x (ix2 i j.castSucc) - val_main_v11 (F := Ideal) x (ix2 i j.succ))
          * Scalar.select (IntOp.cmpi .slt (BitVec.ofNat 32 (j : ℕ)) (t (ix1 i))) (Ideal.ofBits .f32 3212836864#32) 1) 0 := by
  have e : (⟨1 + (j : ℕ), by omega⟩ : Fin 101) = j.succ := Fin.ext (Nat.add_comm _ _)
  rw [← e]
  unfold val_main_v50 val_main_v49 val_main_v48 val_main_v47 val_main_v46 val_main_v45 val_main_v44 val_main_v43 val_main_v42 val_main_v41 val_main_v40 val_main_v39 val_main_v38 val_main_v37 val_main_call2_v0 val_main_call2_cst val_main_call1_v0 val_main_call1_v1 val_main_cst_9 val_main_cst_10
  generalize val_main_v11 (F := Ideal) x = p
  simp only [id_eq]
  pointwise
  rfl

/-- The mean of the concentration terms, as the reference takes it. -/
theorem concTotal_apply (x : Vec Ideal S262144x101 .f32) (t : IVec S262144 32) :
    val_main_v36 (F := Ideal) x t ix0
      = Ideal.div (∑ i : Fin 262144, val_main_v34 (F := Ideal) x t (ix1 i)) (Ideal.ofBits .f32 0x48800000#32) := by
  unfold val_main_v36 val_main_v35 val_main_cst_7 val_main_cst_8
  generalize val_main_v34 (F := Ideal) x t = p
  pointwise

/-- The scaled mean of the unimodality terms, as the reference takes it. -/
theorem uniTotal_apply (x : Vec Ideal S262144x101 .f32) (t : IVec S262144 32) :
    val_main_v53 (F := Ideal) x t ix0
      = Ideal.ofBits .f32 0x447A0000#32
          * Ideal.div (∑ i : Fin 262144, ∑ j : Fin 100, val_main_v50 (F := Ideal) x t (ix2 i j)) (Ideal.ofBits .f32 0x48800000#32) := by
  unfold val_main_v53 val_main_v52 val_main_v51 val_main_cst_11 val_main_cst_12 val_main_cst_13
  generalize val_main_v50 (F := Ideal) x t = p
  pointwise

/-- The supremum of a good row is a real number. -/
theorem sup_real (r : Fin 101 → EReal) (hr : GoodRow r) : ∃ m : ℝ, Finset.univ.sup r = (m : EReal) := by
  have h1 : Finset.univ.sup r ≠ ⊤ :=
    ((Finset.sup_lt_iff bot_lt_top).2 fun j _ => lt_top_iff_ne_top.2 (hr.ne_top j)).ne
  obtain ⟨j, hj⟩ := hr.exists_ne_bot
  have h2 : Finset.univ.sup r ≠ ⊥ := fun h => hj (le_bot_iff.1 (h ▸ Finset.le_sup (Finset.mem_univ j)))
  exact ⟨_, (EReal.coe_toReal h1 h2).symm⟩

/-- A row whose supremum is smaller in size than plus infinity is good. -/
theorem goodRow_of_abs (r : Fin 101 → EReal) (h : max (Finset.univ.sup r) (-Finset.univ.sup r) < ⊤) : GoodRow r := by
  obtain ⟨h1, h2⟩ := max_lt_iff.1 h
  refine ⟨fun j => ((Finset.le_sup (Finset.mem_univ j)).trans_lt h1).ne, ?_⟩
  by_contra hc
  push Not at hc
  have : Finset.univ.sup r = ⊥ := (Finset.sup_eq_bot_iff _ _).2 fun j _ => hc j
  rw [this] at h2
  simp at h2

/-- On a good row the reference's probability is the real quotient. -/
theorem prob_eq (x : Vec Ideal S262144x101 .f32) (i : Fin 262144) (hx : GoodRow (gRow x i)) (j : Fin 101) :
    val_main_v11 (F := Ideal) x (ix2 i j)
      = ((expR (gRow x i) j / ∑ k, expR (gRow x i) k : ℝ) : EReal) := by
  obtain ⟨m, hm⟩ := sup_real _ hx
  rw [prob_apply, hm]
  exact softmax_ref _ hx m j

/-- On a good row with a class in range the reference's concentration term is the real one. -/
theorem concRow_eq (x : Vec Ideal S262144x101 .f32) (t : IVec S262144 32) (i : Fin 262144) (tt : Fin 101)
    (hx : GoodRow (gRow x i)) (ht : t (ix1 i) = BitVec.ofNat 32 tt) :
    val_main_v34 (F := Ideal) x t (ix1 i) = ((concR (expR (gRow x i)) ((tt : ℕ) : ℝ) : ℝ) : EReal) := by
  have hk : ∀ k : Fin 101, FloatOps.sitofp (F := Ideal) .f32 (BitVec.ofNat 32 (k : ℕ)) = (((k : ℕ) : ℝ) : EReal) :=
    fun k => sitofp_small k (by omega)
  rw [concRow_apply, ht, hk tt]
  refine conc_ref (expR (gRow x i)) _ (fun j => val_main_v11 (F := Ideal) x (ix2 i j)) (prob_eq x i hx) _ _ ?_ ?_
  · simp only [refMean, hk]
  · simp only [refVar, hk]

/-- On a good row with a class in range the reference's unimodality terms add up to the real one. -/
theorem uniRow_eq (x : Vec Ideal S262144x101 .f32) (t : IVec S262144 32) (i : Fin 262144) (tt : Fin 101)
    (hx : GoodRow (gRow x i)) (ht : t (ix1 i) = BitVec.ofNat 32 tt) :
    ∑ j : Fin 100, val_main_v50 (F := Ideal) x t (ix2 i j) = ((uniR (expR (gRow x i)) tt : ℝ) : EReal) := by
  rw [← uni_ref (expR (gRow x i)) tt (fun j => val_main_v11 (F := Ideal) x (ix2 i j)) (prob_eq x i hx)]
  refine Finset.sum_congr rfl fun j _ => ?_
  rw [uniTerm_apply, ht, cmpi_slt_small _ _ (by omega) (by omega), lit_neg_one]
  by_cases h : (j : ℕ) < tt
  · simp [Scalar.select, h]
  · simp [Scalar.select, h]

/-- The reference's concentration result on good inputs. -/
theorem ref_conc (x : Vec Ideal S262144x101 .f32) (t : IVec S262144 32) (tt : Fin 262144 → Fin 101)
    (hx : ∀ i, GoodRow (gRow x i)) (ht : ∀ i, t (ix1 i) = BitVec.ofNat 32 (tt i)) :
    val_main_v36 (F := Ideal) x t = fun _ => concMean x tt := by
  funext y
  obtain rfl : y = ix0 := Subsingleton.elim _ _
  rw [concTotal_apply, concMean, ← coe_sum]
  refine congrArg (fun z => Ideal.div z (Ideal.ofBits .f32 0x48800000#32)) ?_
  exact Finset.sum_congr rfl fun i _ => concRow_eq x t i (tt i) (hx i) (ht i)

/-- The reference's unimodality result on good inputs. -/
theorem ref_uni (x : Vec Ideal S262144x101 .f32) (t : IVec S262144 32) (tt : Fin 262144 → Fin 101)
    (hx : ∀ i, GoodRow (gRow x i)) (ht : ∀ i, t (ix1 i) = BitVec.ofNat 32 (tt i)) :
    val_main_v53 (F := Ideal) x t = fun _ => uniMean x tt := by
  funext y
  obtain rfl : y = ix0 := Subsingleton.elim _ _
  rw [uniTotal_apply, uniMean, ← coe_sum]
  refine congrArg (fun z => Ideal.ofBits .f32 0x447A0000#32 * Ideal.div z (Ideal.ofBits .f32 0x48800000#32)) ?_
  exact Finset.sum_congr rfl fun i _ => uniRow_eq x t i (tt i) (hx i) (ht i)

/-- The reference's total on good inputs. -/
theorem ref_total (x : Vec Ideal S262144x101 .f32) (t : IVec S262144 32) (tt : Fin 262144 → Fin 101)
    (hx : ∀ i, GoodRow (gRow x i)) (ht : ∀ i, t (ix1 i) = BitVec.ofNat 32 (tt i)) :
    val_main_v54 (F := Ideal) x t = fun _ => concMean x tt + uniMean x tt := by
  funext y
  rw [val_main_v54_apply, ref_conc x t tt hx ht, ref_uni x t tt hx ht, Ideal.addf_def]

/-- The precondition's tests at a row, for any array of row maxima. -/
theorem tests_apply (hb : S_.BroadcastsInDim S262144 (![] : Fin 0 → Fin S262144.rank)) (M : FVec Ideal S262144 .f32)
    (t : IVec S262144 32) (i : Fin 262144) :
    andi (andi (cmpf .olt (Host.absf M) (broadcastInDim S262144 ![] hb (constant (F := Ideal) S_ .f32 0x7F800000#32)))
        (cmpi .sge t (broadcastInDim S262144 ![] hb (constantI S_ 32 0#32))))
      (cmpi .slt t (broadcastInDim S262144 ![] hb (constantI S_ 32 101#32))) (ix1 i)
      = IntOp.andi (IntOp.andi
          (BitVec.ofBool (decide (max (M (ix1 i)) (-M (ix1 i)) < Ideal.ofBits .f32 0x7F800000#32)))
          (IntOp.cmpi .sge (t (ix1 i)) 0#32)) (IntOp.cmpi .slt (t (ix1 i)) 101#32) := by
  pointwise
  rw [Ideal.absf_def]

/-- The precondition's value at a row, read off its definition. -/
theorem pre_apply [Cert.Pre_rows_finite_targets_valid.Facts] (x : Vec Ideal S262144x101 .f32) (t : IVec S262144 32) (i : Fin 262144) :
    Cert.Pre_rows_finite_targets_valid.fn (F := Ideal) x t (ix1 i)
      = IntOp.andi (IntOp.andi
          (BitVec.ofBool (decide (max (Finset.univ.sup (gRow x i)) (-Finset.univ.sup (gRow x i)) < ⊤)))
          (IntOp.cmpi .sge (t (ix1 i)) 0#32)) (IntOp.cmpi .slt (t (ix1 i)) 101#32) := by
  rw [← rowmax_apply, ← lit_pos_inf, ← tests_apply Cert.Pre_rows_finite_targets_valid.Facts.bcast_S_S262144]
  rfl

/-- Under the precondition every row is good. -/
theorem pre_good [Cert.Pre_rows_finite_targets_valid.Facts] (x : Vec Ideal S262144x101 .f32) (t : IVec S262144 32)
    (h : Cert.Pre_rows_finite_targets_valid.fn (F := Ideal) x t = fun _ => 1#1) (i : Fin 262144) :
    GoodRow (gRow x i) := by
  have h1 := (pre_apply x t i).symm.trans (congrFun h (ix1 i))
  refine goodRow_of_abs _ ?_
  by_contra hc
  rw [decide_eq_false hc] at h1
  simp [IntOp.andi] at h1

/-- A word passing both range tests is one of the numbers below 101. -/
theorem class_of_tests (u : BitVec 1) (b : BitVec 32)
    (h1 : IntOp.andi (IntOp.andi u (IntOp.cmpi .sge b 0#32)) (IntOp.cmpi .slt b 101#32) = 1#1) :
    ∃ tt : Fin 101, b = BitVec.ofNat 32 tt := by
  have h2 : (0#32).sle b = true := by
    by_contra hc
    rw [Bool.not_eq_true] at hc
    simp only [IntOp.andi, IntOp.cmpi, hc] at h1
    simp at h1
  have h3 : b.slt 101#32 = true := by
    by_contra hc
    rw [Bool.not_eq_true] at hc
    simp only [IntOp.andi, IntOp.cmpi, hc] at h1
    simp at h1
  rw [BitVec.sle_iff_toInt_le] at h2
  rw [BitVec.slt_iff_toInt_lt] at h3
  have h4 : b.toNat < 101 := by
    rw [BitVec.toInt_eq_toNat_cond b] at h2 h3
    have e1 : (0#32).toInt = 0 := by decide
    have e2 : (101#32).toInt = 101 := by decide
    rw [e1] at h2
    rw [e2] at h3
    have := b.isLt
    split at h2 <;> omega
  exact ⟨⟨b.toNat, h4⟩, by simp⟩

/-- Under the precondition every class is one of the 101. -/
theorem pre_class [Cert.Pre_rows_finite_targets_valid.Facts] (x : Vec Ideal S262144x101 .f32) (t : IVec S262144 32)
    (h : Cert.Pre_rows_finite_targets_valid.fn (F := Ideal) x t = fun _ => 1#1) (i : Fin 262144) :
    ∃ tt : Fin 101, t (ix1 i) = BitVec.ofNat 32 tt :=
  class_of_tests _ _ ((pre_apply x t i).symm.trans (congrFun h (ix1 i)))

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefValue
public import Idealize.ShloMosaic.Lib.Quiescent
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The precondition's shape relations hold. -/
theorem preFacts : Cert.Pre_rows_finite_targets_valid.Facts where
  reducesTo_S262144x101_S262144_d1 := by decide
  h_S_ := by decide
  bcast_S_S262144 := by decide

/-- The idealized reference leaves its arguments unchanged and every semaphore counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- From memories agreeing on the arguments and satisfying the precondition, the idealized kernel and the
    reference end with the same three results and unchanged arguments. -/
theorem algebraic : Cert.algebraic_KernelIdeal_ReferenceIdeal_pre_rows_finite_targets_valid
    (hKernelIdeal := Cert.KernelIdeal.Gen.facts) (hReferenceIdeal := Cert.ReferenceIdeal.Gen.facts)
    (hPre_rows_finite_targets_valid := preFacts) := by
  intro m g m' g' hpre hagree
  have hx : ∀ c i, GoodRow (gRow (argX m c) i) := fun c i =>
    @pre_good preFacts (argX m c) (argT m c) (hpre c) i
  have hcl : ∀ c i, ∃ k : Fin 101, argT m c (ix1 i) = BitVec.ofNat 32 k := fun c i =>
    @pre_class preFacts (argX m c) (argT m c) (hpre c) i
  choose tt ht using hcl
  refine ⟨fun c => (fun _ => concMean (argX m c) (tt c) + uniMean (argX m c) (tt c)),
    fun c => (fun _ => concMean (argX m c) (tt c)), fun c => (fun _ => uniMean (argX m c) (tt c)),
    kernel_run m g tt hx ht, ?_⟩
  refine (θ_run Cert.ReferenceIdeal.defs _ _).mono (fun r h c => ⟨(h c).1.trans ?_, (h c).2.1.trans ?_,
    (h c).2.2.1.trans ?_, (h c).2.2.2.1, (h c).2.2.2.2⟩) (Cert.ReferenceIdeal.Value.run (F := Ideal) m' g')
  · rw [Cert.ReferenceIdeal.Read.val_main_v54_eq, (hagree c).1, (hagree c).2]
    exact ref_total (argX m c) (argT m c) (tt c) (hx c) (ht c)
  · rw [Cert.ReferenceIdeal.Read.val_main_v36_eq, (hagree c).1, (hagree c).2]
    exact ref_conc (argX m c) (argT m c) (tt c) (hx c) (ht c)
  · refine (Cert.ReferenceIdeal.Read.val_main_v53_eq _ _).trans ?_
    rw [(hagree c).1, (hagree c).2]
    exact ref_uni (argX m c) (argT m c) (tt c) (hx c) (ht c)

/-- The certificate's claims, all of them. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => ref_frame m g,
    fun m g _ => ref_frame m g,
    trivial,
    algebraic⟩

end Cert.Proof

end
